-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x3 : Shape := ⟨3, ![4, 8192, 3]⟩
abbrev S4x2048x3 : Shape := ⟨3, ![4, 2048, 3]⟩
abbrev S4x128x8192 : Shape := ⟨3, ![4, 128, 8192]⟩
abbrev S4x3x8192 : Shape := ⟨3, ![4, 3, 8192]⟩
abbrev S4x2048x32 : Shape := ⟨3, ![4, 2048, 32]⟩
abbrev S1x128x3 : Shape := ⟨3, ![1, 128, 3]⟩
abbrev S1x3x8192 : Shape := ⟨3, ![1, 3, 8192]⟩
abbrev S1x128x32 : Shape := ⟨3, ![1, 128, 32]⟩
abbrev S128x3 : Shape := ⟨2, ![128, 3]⟩
abbrev S3x8192 : Shape := ⟨2, ![3, 8192]⟩
abbrev S128x1 : Shape := ⟨2, ![128, 1]⟩
abbrev S1x8192 : Shape := ⟨2, ![1, 8192]⟩
abbrev S128x8192 : Shape := ⟨2, ![128, 8192]⟩
abbrev S128 : Shape := ⟨1, ![128]⟩
abbrev S128x32 : Shape := ⟨2, ![128, 32]⟩
abbrev S4x8192x128 : Shape := ⟨3, ![4, 8192, 128]⟩
abbrev S4x8192x131 : Shape := ⟨3, ![4, 8192, 131]⟩
abbrev S32768x131 : Shape := ⟨2, ![32768, 131]⟩
abbrev S_ : Shape := ⟨0, ![]⟩
abbrev S4x2048x32x1 : Shape := ⟨4, ![4, 2048, 32, 1]⟩
abbrev S4x2048x32x131 : Shape := ⟨4, ![4, 2048, 32, 131]⟩
abbrev S4x131x2048x32 : Shape := ⟨4, ![4, 131, 2048, 32]⟩
abbrev S4x3x2048 : Shape := ⟨3, ![4, 3, 2048]⟩
abbrev S4x3x2048x1 : Shape := ⟨4, ![4, 3, 2048, 1]⟩
abbrev S4x128x2048x1 : Shape := ⟨4, ![4, 128, 2048, 1]⟩
abbrev S4x131x2048x1 : Shape := ⟨4, ![4, 131, 2048, 1]⟩

abbrev nBuf : Space → Nat
  | .hbm => 27
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x128x8192, .f32⟩
  | .hbm, ⟨3, _⟩ => ⟨S4x3x8192, .f32⟩
  | .hbm, ⟨4, _⟩ => ⟨S4x2048x3, .bf16⟩
  | .hbm, ⟨5, _⟩ => ⟨S4x3x8192, .bf16⟩
  | .hbm, ⟨6, _⟩ => ⟨S4x2048x32, .i32⟩
  | .hbm, ⟨7, _⟩ => ⟨S4x8192x128, .f32⟩
  | .hbm, ⟨8, _⟩ => ⟨S4x8192x131, .f32⟩
  | .hbm, ⟨9, _⟩ => ⟨S32768x131, .f32⟩
  | .hbm, ⟨10, _⟩ => ⟨S_, .i32⟩
  | .hbm, ⟨11, _⟩ => ⟨S4x2048x32, .i32⟩
  | .hbm, ⟨12, _⟩ => ⟨S4x2048x32, .i1⟩
  | .hbm, ⟨13, _⟩ => ⟨S_, .i32⟩
  | .hbm, ⟨14, _⟩ => ⟨S4x2048x32, .i32⟩
  | .hbm, ⟨15, _⟩ => ⟨S4x2048x32, .i32⟩
  | .hbm, ⟨16, _⟩ => ⟨S4x2048x32, .i32⟩
  | .hbm, ⟨17, _⟩ => ⟨S4x2048x32x1, .i32⟩
  | .hbm, ⟨18, _⟩ => ⟨S4x2048x32x131, .f32⟩
  | .hbm, ⟨19, _⟩ => ⟨S4x131x2048x32, .f32⟩
  | .hbm, ⟨20, _⟩ => ⟨S4x3x2048, .f32⟩
  | .hbm, ⟨21, _⟩ => ⟨S4x3x2048x1, .f32⟩
  | .hbm, ⟨22, _⟩ => ⟨S_, .f32⟩
  | .hbm, ⟨23, _⟩ => ⟨S4x128x2048x1, .f32⟩
  | .hbm, ⟨24, _⟩ => ⟨S4x131x2048x1, .f32⟩
  | .hbm, ⟨25, _⟩ => ⟨S4x131x2048x32, .f32⟩
  | .hbm, ⟨26, _⟩ => ⟨S4x131x2048x32, .f32⟩
  | .local _ .vmem, ⟨0, _⟩ => ⟨S1x128x3, .f32⟩
  | .local _ .vmem, ⟨1, _⟩ => ⟨S1x128x3, .f32⟩
  | .local _ .vmem, ⟨2, _⟩ => ⟨S1x3x8192, .f32⟩
  | .local _ .vmem, ⟨3, _⟩ => ⟨S1x3x8192, .f32⟩
  | .local _ .vmem, ⟨4, _⟩ => ⟨S1x128x3, .bf16⟩
  | .local _ .vmem, ⟨5, _⟩ => ⟨S1x128x3, .bf16⟩
  | .local _ .vmem, ⟨6, _⟩ => ⟨S1x3x8192, .bf16⟩
  | .local _ .vmem, ⟨7, _⟩ => ⟨S1x3x8192, .bf16⟩
  | .local _ .vmem, ⟨8, _⟩ => ⟨S1x128x32, .i32⟩
  | .local _ .vmem, ⟨9, _⟩ => ⟨S1x128x32, .i32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x8192x3 : Shape := ⟨3, ![4, 8192, 3]⟩
abbrev S4x2048x3 : Shape := ⟨3, ![4, 2048, 3]⟩
abbrev S4x128x8192 : Shape := ⟨3, ![4, 128, 8192]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S4x2048x32 : Shape := ⟨3, ![4, 2048, 32]⟩
abbrev S8192 : Shape := ⟨1, ![8192]⟩
abbrev S4x2048x32x1 : Shape := ⟨4, ![4, 2048, 32, 1]⟩
abbrev S4x2048x32x3 : Shape := ⟨4, ![4, 2048, 32, 3]⟩
abbrev S4x3x2048x32 : Shape := ⟨4, ![4, 3, 2048, 32]⟩
abbrev S4x3x2048 : Shape := ⟨3, ![4, 3, 2048]⟩
abbrev S4x3x2048x1 : Shape := ⟨4, ![4, 3, 2048, 1]⟩
abbrev S4x128x2048x32 : Shape := ⟨4, ![4, 128, 2048, 32]⟩
abbrev S4x131x2048x32 : Shape := ⟨4, ![4, 131, 2048, 32]⟩

abbrev nBuf : Space → Nat
  | .hbm => 101
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x2048x3, .f32⟩
  | .hbm, ⟨2, _⟩ => ⟨S4x128x8192, .f32⟩
  | .hbm, ⟨3, _⟩ => ⟨S4x2048x3, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x1x8192, .f32⟩
  | .hbm, ⟨11, _⟩ => ⟨S4x2048x8192, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S_, .f32⟩
  | .hbm, ⟨16, _⟩ => ⟨S4x2048x8192, .f32⟩
  | .hbm, ⟨17, _⟩ => ⟨S4x2048x8192, .f32⟩
  | .hbm, ⟨18, _⟩ => ⟨S4x2048x8192, .f32⟩
  | .hbm, ⟨19, _⟩ => ⟨S_, .f32⟩
  | .hbm, ⟨20, _⟩ => ⟨S4x2048x8192, .f32⟩
  | .hbm, ⟨21, _⟩ => ⟨S4x2048x8192, .f32⟩
  | .hbm, ⟨22, _⟩ => ⟨S4x2048x8192, .f32⟩
  | .hbm, ⟨23, _⟩ => ⟨S_, .f32⟩
  | .hbm, ⟨24, _⟩ => ⟨S4x2048x8192, .f32⟩
  | .hbm, ⟨25, _⟩ => ⟨S4x2048x8192, .i1⟩
  | .hbm, ⟨26, _⟩ => ⟨S4x2048x8192, .i32⟩
  | .hbm, ⟨27, _⟩ => ⟨S_, .i32⟩
  | .hbm, ⟨28, _⟩ => ⟨S4x2048, .i32⟩
  | .hbm, ⟨29, _⟩ => ⟨S_, .f32⟩
  | .hbm, ⟨30, _⟩ => ⟨S_, .f32⟩
  | .hbm, ⟨31, _⟩ => ⟨S4x2048x8192, .f32⟩
  | .hbm, ⟨32, _⟩ => ⟨S4x2048x8192, .f32⟩
  | .hbm, ⟨33, _⟩ => ⟨S4x2048x8192, .f32⟩
  | .hbm, ⟨34, _⟩ => ⟨S4x2048x32, .f32⟩
  | .hbm, ⟨35, _⟩ => ⟨S4x2048x32, .i32⟩
  | .hbm, ⟨36, _⟩ => ⟨S8192, .i32⟩
  | .hbm, ⟨37, _⟩ => ⟨S_, .i32⟩
  | .hbm, ⟨38, _⟩ => ⟨S_, .i32⟩
  | .hbm, ⟨39, _⟩ => ⟨S4x2048x8192, .i32⟩
  | .hbm, ⟨40, _⟩ => ⟨S4x2048x8192, .i32⟩
  | .hbm, ⟨41, _⟩ => ⟨S4x2048x8192, .i32⟩
  | .hbm, ⟨42, _⟩ => ⟨S4x2048x8192, .i32⟩
  | .hbm, ⟨43, _⟩ => ⟨S4x2048x32, .i32⟩
  | .hbm, ⟨44, _⟩ => ⟨S4x2048x32, .i32⟩
  | .hbm, ⟨45, _⟩ => ⟨S4x2048x32, .i32⟩
  | .hbm, ⟨46, _⟩ => ⟨S_, .i32⟩
  | .hbm, ⟨47, _⟩ => ⟨S_, .i32⟩
  | .hbm, ⟨48, _⟩ => ⟨S4x2048x8192, .i32⟩
  | .hbm, ⟨49, _⟩ => ⟨S4x2048x8192, .i32⟩
  | .hbm, ⟨50, _⟩ => ⟨S4x2048x8192, .i32⟩
  | .hbm, ⟨51, _⟩ => ⟨S_, .i32⟩
  | .hbm, ⟨52, _⟩ => ⟨S4x2048, .i32⟩
  | .hbm, ⟨53, _⟩ => ⟨S_, .i32⟩
  | .hbm, ⟨54, _⟩ => ⟨S4x2048, .i32⟩
  | .hbm, ⟨55, _⟩ => ⟨S4x2048, .i32⟩
  | .hbm, ⟨56, _⟩ => ⟨S_, .i32⟩
  | .hbm, ⟨57, _⟩ => ⟨S4x2048x32, .i32⟩
  | .hbm, ⟨58, _⟩ => ⟨S4x2048x32, .i1⟩
  | .hbm, ⟨59, _⟩ => ⟨S4x2048x1, .i32⟩
  | .hbm, ⟨60, _⟩ => ⟨S4x2048x32, .i32⟩
  | .hbm, ⟨61, _⟩ => ⟨S4x2048x32, .i32⟩
  | .hbm, ⟨62, _⟩ => ⟨S_, .i32⟩
  | .hbm, ⟨63, _⟩ => ⟨S4x2048, .i32⟩
  | .hbm, ⟨64, _⟩ => ⟨S4x2048, .i1⟩
  | .hbm, ⟨65, _⟩ => ⟨S4x2048x1, .i1⟩
  | .hbm, ⟨66, _⟩ => ⟨S4x2048x32, .i1⟩
  | .hbm, ⟨67, _⟩ => ⟨S4x2048x32, .i32⟩
  | .hbm, ⟨68, _⟩ => ⟨S_, .i32⟩
  | .hbm, ⟨69, _⟩ => ⟨S4x2048, .i32⟩
  | .hbm, ⟨70, _⟩ => ⟨S4x2048, .i1⟩
  | .hbm, ⟨71, _⟩ => ⟨S4x2048x1, .i1⟩
  | .hbm, ⟨72, _⟩ => ⟨S_, .i32⟩
  | .hbm, ⟨73, _⟩ => ⟨S_, .i32⟩
  | .hbm, ⟨74, _⟩ => ⟨S4x2048x32, .i1⟩
  | .hbm, ⟨75, _⟩ => ⟨S4x2048x32, .i32⟩
  | .hbm, ⟨76, _⟩ => ⟨S4x2048x32, .i32⟩
  | .hbm, ⟨77, _⟩ => ⟨S_, .i32⟩
  | .hbm, ⟨78, _⟩ => ⟨S4x2048x32, .i32⟩
  | .hbm, ⟨79, _⟩ => ⟨S4x2048x32, .i1⟩
  | .hbm, ⟨80, _⟩ => ⟨S_, .i32⟩
  | .hbm, ⟨81, _⟩ => ⟨S4x2048x32, .i32⟩
  | .hbm, ⟨82, _⟩ => ⟨S4x2048x32, .i32⟩
  | .hbm, ⟨83, _⟩ => ⟨S4x2048x32, .i32⟩
  | .hbm, ⟨84, _⟩ => ⟨S4x2048x32x1, .i32⟩
  | .hbm, ⟨85, _⟩ => ⟨S4x2048x32x3, .f32⟩
  | .hbm, ⟨86, _⟩ => ⟨S4x3x2048x32, .f32⟩
  | .hbm, ⟨87, _⟩ => ⟨S4x3x2048, .f32⟩
  | .hbm, ⟨88, _⟩ => ⟨S4x3x2048x1, .f32⟩
  | .hbm, ⟨89, _⟩ => ⟨S4x3x2048x32, .f32⟩
  | .hbm, ⟨90, _⟩ => ⟨S4x3x2048x32, .f32⟩
  | .hbm, ⟨91, _⟩ => ⟨S_, .i32⟩
  | .hbm, ⟨92, _⟩ => ⟨S4x2048x32, .i32⟩
  | .hbm, ⟨93, _⟩ => ⟨S4x2048x32, .i1⟩
  | .hbm, ⟨94, _⟩ => ⟨S_, .i32⟩
  | .hbm, ⟨95, _⟩ => ⟨S4x2048x32, .i32⟩
  | .hbm, ⟨96, _⟩ => ⟨S4x2048x32, .i32⟩
  | .hbm, ⟨97, _⟩ => ⟨S4x2048x32, .i32⟩
  | .hbm, ⟨98, _⟩ => ⟨S4x2048x32x1, .i32⟩
  | .hbm, ⟨99, _⟩ => ⟨S4x128x2048x32, .f32⟩
  | .hbm, ⟨100, _⟩ => ⟨S4x131x2048x32, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_values : Ref sig .tc := ⟨.hbm, 34, rfl⟩
abbrev main_indices : Ref sig .tc := ⟨.hbm, 35, rfl⟩
abbrev main_v22 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v23 : Ref sig .tc := ⟨.hbm, 41, rfl⟩
abbrev main_v24 : Ref sig .tc := ⟨.hbm, 42, rfl⟩
abbrev main_values_6 : Ref sig .tc := ⟨.hbm, 43, rfl⟩
abbrev main_indices_7 : Ref sig .tc := ⟨.hbm, 44, rfl⟩
abbrev main_v25 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_c_10 : Ref sig .tc := ⟨.hbm, 53, rfl⟩
abbrev main_v28 : Ref sig .tc := ⟨.hbm, 54, rfl⟩
abbrev main_v29 : Ref sig .tc := ⟨.hbm, 55, rfl⟩
abbrev main_c_11 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call3_v0 : Ref sig .tc := ⟨.hbm, 60, rfl⟩
abbrev main_v33 : Ref sig .tc := ⟨.hbm, 61, rfl⟩
abbrev main_c_12 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call4_v0 : Ref sig .tc := ⟨.hbm, 66, rfl⟩
abbrev main_v37 : Ref sig .tc := ⟨.hbm, 67, rfl⟩
abbrev main_c_13 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_c_14 : Ref sig .tc := ⟨.hbm, 72, rfl⟩
abbrev main_call5_v0 : Ref sig .tc := ⟨.hbm, 73, rfl⟩
abbrev main_call5_v1 : Ref sig .tc := ⟨.hbm, 74, rfl⟩
abbrev main_call5_v2 : Ref sig .tc := ⟨.hbm, 75, rfl⟩
abbrev main_v41 : Ref sig .tc := ⟨.hbm, 76, rfl⟩
abbrev main_c_15 : Ref sig .tc := ⟨.hbm, 77, rfl⟩
abbrev main_v42 : Ref sig .tc := ⟨.hbm, 78, rfl⟩
abbrev main_v43 : Ref sig .tc := ⟨.hbm, 79, rfl⟩
abbrev main_c_16 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_17 : Ref sig .tc := ⟨.hbm, 91, rfl⟩
abbrev main_v54 : Ref sig .tc := ⟨.hbm, 92, rfl⟩
abbrev main_v55 : Ref sig .tc := ⟨.hbm, 93, rfl⟩
abbrev main_c_18 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]
-- ==== Proof.Selection.lean ====
/-
  Repeated selection of the first least key, against a stable sort (pure order facts, no program).
-/
module

public import Idealize.ShloMosaic.Lib.SortPrefix
public import Mathlib.Order.BoundedOrder.Basic
public import Mathlib.Data.Fintype.Card
public import Mathlib.Order.Interval.Finset.Fin

@[expose] public section

noncomputable section

namespace Cert.Proof.Selection

open Idealize.ShloMosaic

variable {n : ℕ} {α : Type} [LinearOrder α]

/-- The stable ascending order of the positions by their keys: `order key r` is the position whose key comes
    `r`-th, equal keys in the order of their positions. -/
def order (key : Fin n → α) : Fin n → Fin n := sortedFrom fun a b => decide (key a < key b)

/-- `a` comes before `b`: by the smaller key, then by the smaller position. -/
def firstOf (key : Fin n → α) (a b : Fin n) : Bool :=
  decide (key a < key b) || (decide (key a = key b) && decide (a < b))

theorem firstOf_total (key : Fin n → α) : StrictTotalBefore (firstOf key) :=
  StrictTotalBefore.of_key_then_position (fun a b : α => decide (a < b)) key (by simp)
    (fun a b c h₁ h₂ => by simp only [decide_eq_true_eq] at *; exact h₁.trans h₂)
    (fun a b => by simp only [decide_eq_true_eq]; exact lt_trichotomy a b)

/-- On a list whose positions ascend, sorting stably by the key alone and sorting by the key and then the position
    give the same list. -/
theorem stableSort_key (key : Fin n → α) (l : List (Fin n)) (hl : l.Pairwise (· < ·)) :
    stableSort (fun a b => decide (key a < key b)) l = stableSort (firstOf key) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.mp hb)
    have : ¬ b < a := not_lt.mpr hab.le
    simp [firstOf, this]

theorem order_eq (key : Fin n → α) : order key = sortedFrom (firstOf key) := by
  have h : sortPositions n (fun a b => decide (key a < key b)) = sortPositions n (firstOf key) :=
    stableSort_key key _ (List.pairwise_lt_finRange n)
  funext k
  unfold order sortedFrom
  rw [List.get_of_eq h]
  rfl

theorem order_injective (key : Fin n → α) : Function.Injective (order key) := sortedFrom_injective _

theorem order_surjective (key : Fin n → α) : Function.Surjective (order key) := sortedFrom_surjective _

/-- Of two places the earlier one holds the smaller key, or an equal key at a smaller position. -/
theorem order_lt (key : Fin n → α) (i j : Fin n) (h : i < j) :
    key (order key i) < key (order key j) ∨ (key (order key i) = key (order key j) ∧ order key i < order key j) := by
  have hB := firstOf_total key
  have hno : firstOf key (order key j) (order key i) = false := by
    rw [order_eq]
    exact sortedFrom_noInversion _ _ (fun a b h => hB.asymm a b h) (fun _ _ h => h) hB.negTrans i j h
  have hne : order key i ≠ order key j := fun e => h.ne (order_injective key e)
  rcases hB.total _ _ hne with h' | h'
  · simpa [firstOf] using h'
  · rw [h'] at hno; exact absurd hno (by decide)

/-- A downward closed set of places is an initial segment, as long as the set is large. -/
theorem mem_iff_lt_card (T : Finset (Fin n)) (hT : ∀ i j, i ≤ j → j ∈ T → i ∈ T) (s : Fin n) :
    s ∈ T ↔ s.val < T.card := by
  constructor
  · intro hs
    have : Finset.Iic s ⊆ T := fun i hi => hT i s (Finset.mem_Iic.mp hi) hs
    have := Finset.card_le_card this
    rw [Fin.card_Iic] at this
    omega
  · intro hs
    by_contra hn
    have : T ⊆ Finset.Iio s := fun i hi => Finset.mem_Iio.mpr (lt_of_not_ge fun h => hn (hT s i h hi))
    have := Finset.card_le_card this
    rw [Fin.card_Iio] at this
    omega

variable [OrderTop α]

/-- How many keys are not the greatest value. -/
def count (key : Fin n → α) : ℕ := (Finset.univ.filter fun j => key j ≠ ⊤).card

/-- The keys that are not the greatest value fill the first places. -/
theorem key_order_ne_top (key : Fin n → α) (s : Fin n) : key (order key s) ≠ ⊤ ↔ s.val < count key := by
  classical
  have hc : count key = (Finset.univ.filter fun s => key (order key s) ≠ ⊤).card := by
    unfold count
    symm
    refine Finset.card_bij (fun s _ => order key s) (fun s hs => by simpa using hs)
      (fun a _ b _ h => order_injective key h) (fun b hb => ?_)
    obtain ⟨a, rfl⟩ := order_surjective key b
    exact ⟨a, by simpa using hb, rfl⟩
  rw [hc, ← mem_iff_lt_card]
  · simp
  · intro i j hij hj
    simp only [Finset.mem_filter, Finset.mem_univ, true_and] at hj ⊢
    rcases hij.lt_or_eq with h | rfl
    · rcases order_lt key i j h with h' | h'
      · exact (lt_of_lt_of_le h' le_top).ne
      · rw [h'.1]; exact hj
    · exact hj

/-- `j` is the first position of the least key. -/
def IsFirst (key : Fin n → α) (j : Fin n) : Prop := (∀ i, key j ≤ key i) ∧ ∀ i, key i = key j → j ≤ i

omit [OrderTop α] in
theorem IsFirst.unique {key : Fin n → α} {i j : Fin n} (hi : IsFirst key i) (hj : IsFirst key j) : i = j := by
  have e : key i = key j := le_antisymm (hi.1 j) (hj.1 i)
  exact le_antisymm (hi.2 j e.symm) (hj.2 i e)

/-- After `r` rounds of taking the first position of the least key and putting the greatest value there, the keys are
    the first ones but for the first `r` places of the order; the `r`-th pick is the order's `r`-th place. -/
theorem rounds (key : Fin n → α) (K : ℕ → Fin n → α) (p : ℕ → Fin n) (m : ℕ) (h0 : K 0 = key)
    (hp : ∀ r < m, IsFirst (K r) (p r)) (hK : ∀ r, r + 1 < m → K (r + 1) = fun j => if j = p r then ⊤ else K r j)
    (r : ℕ) (hrm : r < m) (hr : r < count key) (hrn : r < n) : p r = order key ⟨r, hrn⟩ := by
  have step : ∀ r, r < m → r < count key → ∀ hrn : r < n,
      (∀ j, K r j = if ∃ i : Fin n, i.val < r ∧ order key i = j then ⊤ else key j) → p r = order key ⟨r, hrn⟩ := by
    intro r hrm hr hrn hS
    have hself : K r (order key ⟨r, hrn⟩) = key (order key ⟨r, hrn⟩) := by
      rw [hS, if_neg]
      rintro ⟨i, hi, e⟩
      have := order_injective key e
      rw [this] at hi; exact absurd hi (lt_irrefl _)
    have hnt : key (order key ⟨r, hrn⟩) ≠ ⊤ := (key_order_ne_top key _).mpr hr
    have later : ∀ j, (¬ ∃ i : Fin n, i.val < r ∧ order key i = j) → j = order key ⟨r, hrn⟩ ∨
        (key (order key ⟨r, hrn⟩) < key j ∨ (key (order key ⟨r, hrn⟩) = key j ∧ order key ⟨r, hrn⟩ < j)) := by
      intro j hj
      obtain ⟨s, rfl⟩ := order_surjective key j
      rcases lt_trichotomy s.val r with h | h | h
      · exact absurd ⟨s, h, rfl⟩ hj
      · left; congr 1; exact Fin.ext h
      · right; exact order_lt key ⟨r, hrn⟩ s h
    refine (hp r hrm).unique ⟨fun j => ?_, fun j hj => ?_⟩
    · rw [hself, hS]
      split_ifs with h
      · exact le_top
      · rcases later j h with e | e | e
        · rw [e]
        · exact e.le
        · exact e.1.le
    · rw [hself, hS] at hj
      split_ifs at hj with h
      · exact absurd hj.symm hnt
      · rcases later j h with e | e | e
        · exact e.ge
        · exact absurd hj e.ne'
        · exact e.2.le
  have hS : ∀ r, r < m → r < count key → r < n →
      ∀ j, K r j = if ∃ i : Fin n, i.val < r ∧ order key i = j then ⊤ else key j := by
    intro r
    induction r with
    | zero => intro _ _ _ j; simp [h0]
    | succ r ih =>
      intro hm hc hn j
      have hS := ih (by omega) (by omega) (by omega)
      have hpr := step r (by omega) (by omega) (by omega) hS
      rw [hK r hm]
      show (if j = p r then ⊤ else K r j) = _
      rw [hS j, hpr]
      by_cases hj : j = order key ⟨r, by omega⟩
      · rw [if_pos hj, if_pos ⟨⟨r, by omega⟩, by simp, hj.symm⟩]
      · rw [if_neg hj]
        congr 1
        apply propext
        constructor
        · rintro ⟨i, hi, e⟩; exact ⟨i, by omega, e⟩
        · rintro ⟨i, hi, e⟩
          refine ⟨i, ?_, e⟩
          rcases Nat.lt_succ_iff_lt_or_eq.mp hi with h | h
          · exact h
          · exact absurd (e.symm.trans (congrArg _ (Fin.ext h))) hj
  exact step r hrm hr hrn (hS r hrm hr hrn)

end Cert.Proof.Selection

end
-- ==== Proof.Row.lean ====
/-
  One query's row of distances: which of the 8192 points are chosen, and how repeated selection finds them.
-/
module

public import proofs.«01_k».proof.Proof.Selection
public import Idealize.ShloMosaic.Lib.Pointwise
public import Idealize.ShloMosaic.Lib.IndicatorCount

@[expose] public section

set_option maxRecDepth 16384

noncomputable section

namespace Cert.Proof.Row

open Idealize.ShloMosaic Cert.Proof.Selection

/-- The search radius, one tenth rounded to a 32-bit float. -/
def radius : EReal := Ideal.ofBits .f32 0x3DCCCCCD#32

/-- Infinity's bit pattern is the greatest extended real. -/
theorem ofBits_top : Ideal.ofBits .f32 0x7F800000#32 = (⊤ : EReal) := by
  simp [Ideal.ofBits, Ideal.ieee]

theorem radius_lt_top : radius < ⊤ := by
  show Ideal.ieee 8 23 (0x3DCCCCCD#32 : BitVec 32) < ⊤
  unfold Ideal.ieee
  dsimp only
  rw [if_neg (by decide), if_neg (by decide)]
  exact EReal.coe_lt_top _

/-! ### The signed minimum and maximum of words -/

theorem toInt_minsi (a b : BitVec 32) : (IntOp.minsi a b).toInt = min a.toInt b.toInt := by
  unfold IntOp.minsi
  rw [BitVec.slt_eq_decide]
  by_cases h : a.toInt < b.toInt
  · simp [h, h.le]
  · simp [h, not_lt.mp h]

theorem toInt_maxsi (a b : BitVec 32) : (IntOp.maxsi a b).toInt = max a.toInt b.toInt := by
  unfold IntOp.maxsi
  rw [BitVec.slt_eq_decide]
  by_cases h : b.toInt < a.toInt
  · simp [h, h.le]
  · simp [h, not_lt.mp h]

theorem toInt_small (m : ℕ) (h : m < 2 ^ 31) : (BitVec.ofNat 32 m).toInt = m := by
  rw [BitVec.toInt_ofNat']
  rw [Int.bmod_def]
  omega

variable {α : Type}

theorem select_eq (a b : BitVec 32) (x y : α) : Scalar.select (IntOp.cmpi .eq a b) x y = if a = b then x else y := by
  by_cases h : a = b <;> simp [Scalar.select, IntOp.cmpi, beq_eq_decide, h]

theorem select_slt (a b : BitVec 32) (x y : α) :
    Scalar.select (IntOp.cmpi .slt a b) x y = if a.toInt < b.toInt then x else y := by
  by_cases h : a.toInt < b.toInt <;> simp [Scalar.select, IntOp.cmpi, BitVec.slt_eq_decide, h]

theorem select_sge (a b : BitVec 32) (x y : α) :
    Scalar.select (IntOp.cmpi .sge a b) x y = if b.toInt ≤ a.toInt then x else y := by
  by_cases h : b.toInt ≤ a.toInt <;> simp [Scalar.select, IntOp.cmpi, BitVec.sle_eq_decide, h]

/-! ### One selection -/

/-- The least of the columns whose key is the least one, written as a word: the first of them. -/
theorem least_column (f : Fin 8192 → EReal) : ∃ p : Fin 8192, IsFirst f p ∧
    Finset.fold IntOp.minsi (2147483647#32) (fun j : Fin 8192 => if f j = Finset.fold min ⊤ f Finset.univ then
      BitVec.ofNat 32 j.val else 8192#32) Finset.univ = BitVec.ofNat 32 p.val := by
  classical
  set m : EReal := Finset.fold min ⊤ f Finset.univ with hm
  have hle : ∀ j, m ≤ f j := fun j => ((Finset.le_fold_min (s := Finset.univ) (f := f) (b := ⊤) m).mp (le_of_eq hm)).2 j (Finset.mem_univ j)
  have hex : ∃ j, f j = m := by
    by_contra hn
    push Not at hn
    have hlt : m < Finset.fold min ⊤ f Finset.univ := by
      rw [Finset.lt_fold_min]
      have h0 : m < f 0 := lt_of_le_of_ne (hle 0) (hn 0).symm
      exact ⟨lt_of_lt_of_le h0 le_top, fun j _ => lt_of_le_of_ne (hle j) (hn j).symm⟩
    exact absurd hlt (by rw [← hm]; exact lt_irrefl _)
  obtain ⟨p, hp, hmin⟩ := (Finset.univ.filter fun j => f j = m).exists_minimal
    (by obtain ⟨j, hj⟩ := hex; exact ⟨j, by simpa using hj⟩)
  have hpm : f p = m := by simpa using hp
  have hfirst : ∀ j, f j = m → p ≤ j := fun j hj => by
    by_contra h
    exact h (hmin (by simpa using hj) (le_of_not_ge h))
  refine ⟨p, ⟨fun j => hpm ▸ hle j, fun j hj => hfirst j (hj.trans hpm)⟩, ?_⟩
  apply BitVec.eq_of_toInt_eq
  rw [← Finset.fold_hom (op' := min) toInt_minsi, toInt_small p.val (by omega)]
  apply le_antisymm
  · rw [Finset.fold_min_le]
    refine Or.inr ⟨p, Finset.mem_univ _, ?_⟩
    rw [if_pos hpm, toInt_small p.val (by omega)]
  · rw [Finset.le_fold_min]
    refine ⟨by show ((p.val : ℕ) : ℤ) ≤ 2147483647; omega, fun j _ => ?_⟩
    split_ifs with h
    · rw [toInt_small j.val (by omega)]
      exact_mod_cast hfirst j h
    · show ((p.val : ℕ) : ℤ) ≤ 8192
      omega

/-! ### What a row's choice is -/

/-- How many points lie within the radius. -/
def hits (d : Fin 8192 → EReal) : ℕ := (Finset.univ.filter fun j => d j ≤ radius).card

/-- The key the points are ordered by: infinity outside the radius; inside, the point's number when fewer than 32
    points are inside, else its distance. -/
def key (d : Fin 8192 → EReal) (j : Fin 8192) : EReal :=
  if d j ≤ radius then (if hits d < 32 then (((j.val : ℤ) : ℝ) : EReal) else d j) else ⊤

/-- The last point within the radius (the point 0 when there is none). -/
def lastHit (d : Fin 8192 → EReal) : BitVec 32 :=
  IntOp.maxsi (Finset.fold IntOp.maxsi (2147483648#32)
    (fun j : Fin 8192 => if d j ≤ radius then BitVec.ofNat 32 j.val else 4294967295#32) Finset.univ) 0#32

/-- The `k`-th of the 32 points chosen for a row: the `k`-th in the order of the keys while there are points within
    the radius, then the last point within the radius. -/
def chosen (d : Fin 8192 → EReal) (k : Fin 32) : BitVec 32 :=
  if hits d ≤ k.val then lastHit d else BitVec.ofNat 32 (order (key d) (k.castLE (by decide))).val

theorem hits_le (d : Fin 8192 → EReal) : hits d ≤ 8192 := by
  unfold hits
  exact (Finset.card_le_univ _).trans_eq (Fintype.card_fin _)

theorem key_ne_top (d : Fin 8192 → EReal) (j : Fin 8192) : key d j ≠ ⊤ ↔ d j ≤ radius := by
  unfold key
  split_ifs with h h'
  · exact ⟨fun _ => h, fun _ => EReal.coe_ne_top _⟩
  · exact ⟨fun _ => h, fun _ => (lt_of_le_of_lt h radius_lt_top).ne⟩
  · exact ⟨fun e => absurd rfl e, fun e => absurd e h⟩

/-- As many keys are finite as points lie within the radius. -/
theorem count_key (d : Fin 8192 → EReal) : Selection.count (key d) = hits d := by
  unfold Selection.count hits
  congr 1
  ext j
  simp [key_ne_top]

theorem lastHit_bounds (d : Fin 8192 → EReal) : 0 ≤ (lastHit d).toInt ∧ (lastHit d).toInt ≤ 8191 := by
  unfold lastHit
  rw [toInt_maxsi]
  refine ⟨le_max_right _ _, max_le ?_ (by decide)⟩
  rw [← Finset.fold_hom (op' := max) toInt_maxsi, Finset.fold_max_le]
  refine ⟨by decide, fun j _ => ?_⟩
  split_ifs
  · rw [toInt_small _ (by omega)]; omega
  · decide

/-- With no point within the radius it is the point 0. -/
theorem lastHit_none (d : Fin 8192 → EReal) (h : hits d = 0) : lastHit d = 0#32 := by
  have hd : ∀ j, ¬ d j ≤ radius := fun j hj =>
    Finset.notMem_empty j (Finset.card_eq_zero.mp h ▸ Finset.mem_filter.mpr ⟨Finset.mem_univ j, hj⟩)
  refine BitVec.eq_of_toInt_eq ?_
  unfold lastHit
  rw [toInt_maxsi]
  refine max_eq_right ?_
  rw [← Finset.fold_hom (op' := max) toInt_maxsi, Finset.fold_max_le]
  refine ⟨by decide, fun j _ => ?_⟩
  rw [if_neg (hd j)]
  decide

/-- A chosen point is one of the 8192. -/
theorem chosen_lt (d : Fin 8192 → EReal) (k : Fin 32) : (chosen d k).toNat < 8192 := by
  unfold chosen
  split_ifs
  · have h := lastHit_bounds d
    have := BitVec.toInt_eq_toNat_cond (lastHit d)
    have := (lastHit d).isLt
    split_ifs at * <;> omega
  · rw [BitVec.toNat_ofNat]
    have := (order (key d) (k.castLE (by decide))).isLt
    omega

/-- The number of points within the radius, counted as a sum of words. -/
theorem hits_word (d : Fin 8192 → EReal) : Finset.fold IntOp.addi (0#32)
    (fun j : Fin 8192 => BitVec.setWidth 32 (BitVec.ofBool (decide (d j ≤ radius)))) Finset.univ
      = BitVec.ofNat 32 (hits d) := by
  rw [IndicatorCount.fold_addi_setWidth_eq_card (fun j : Fin 8192 => BitVec.ofBool (decide (d j ≤ radius)))]
  unfold hits
  congr 2
  refine Finset.filter_congr fun j _ => ?_
  by_cases h : d j ≤ radius <;> simp [h]

/-- Thirty-two rounds over a row's keys, the rest filled with the last point within the radius, give the row's
    choice. -/
theorem chosen_of_rounds (d : Fin 8192 → EReal) (K : ℕ → Fin 8192 → EReal) (p : ℕ → Fin 8192) (h0 : K 0 = key d)
    (hp : ∀ r, IsFirst (K r) (p r)) (hK : ∀ r, K (r + 1) = fun j => if j = p r then ⊤ else K r j) (k : Fin 32) :
    (if hits d ≤ k.val then lastHit d else BitVec.ofNat 32 (p k.val).val) = chosen d k := by
  unfold chosen
  split_ifs with h
  · rfl
  · have hk : k.val < 8192 := by omega
    rw [rounds (key d) K p 32 h0 (fun r _ => hp r) (fun r _ => hK r) k.val k.isLt
      (by rw [count_key]; omega) hk]
    rfl

end Cert.Proof.Row

end
-- ==== Proof.Rounds.lean ====
/-
  The thirty-two selection rounds of the kernel's body, as thirty-two turns of one step.
-/
module

public import proofs.«01_k».proof.Proof.Gen.KernelIdeal.Frame
public import proofs.«01_k».proof.Proof.Row
public import Idealize.ShloMosaic.Lib.Pointwise
public import Idealize.ShloMosaic.Lib.Pipeline.ValueKit

@[expose] public section

set_option maxRecDepth 16384

noncomputable section

namespace Cert.Proof.Rounds

open Idealize.ShloMosaic Idealize.ShloMosaic.TcCoe Idealize.SL.Sem Cert.KernelIdeal Cert.KernelIdeal.Gen

/-- A block of keys: one row of 8192 keys for each of 128 queries. -/
abbrev Keys := FVec Ideal S128x8192 .f32

/-- The column number at every place of a block. -/
def columns : IVec S128x8192 32 := iota .tc S128x8192 32 [1] iota_S128x8192_d1_w32

/-- Which keys equal the least key of their row. -/
def isLeast (k : Keys) : IVec S128x8192 1 :=
  cmpf .oeq k (broadcastTo S128x8192 (shapeCast S128x1
    (multiReduction .minimumf [1] S128 k 0x7F800000#32 reduces_S128x8192_S128 (.inl rfl) rfl)
    shapeCasts_S128_S128x1) broadcasts_S128x1_S128x8192)

/-- The column number where the key is its row's least, the number of columns elsewhere. -/
def candidates (k : Keys) : IVec S128x8192 32 := select (isLeast k) columns (broadcast S128x8192 8192#32)

/-- Each row's first column holding the row's least key. -/
def pick (k : Keys) : IVec S128x1 32 :=
  shapeCast S128x1 (multiReductionI .minsi [1] S128 (candidates k) 2147483647#32 reduces_S128x8192_S128 rfl)
    shapeCasts_S128_S128x1

/-- Where the column is the picked one. -/
def picked (k : Keys) : IVec S128x8192 1 := cmpi .eq columns (broadcastTo S128x8192 (pick k) broadcasts_S128x1_S128x8192)

/-- The keys with infinity at the picked column of each row. -/
def next (k : Keys) : Keys := select (picked k) (broadcast S128x8192 (Scalar.ofBits .f32 0x7F800000#32)) k

/-- The keys after `r` rounds. -/
def after (k : Keys) : ℕ → Keys
  | 0 => k
  | r + 1 => next (after k r)

theorem concatenates_picks : Shape.Concatenates ((List.ofFn fun _ : Fin 32 => S128x1)) S128x32 1 := by decide

/-- The thirty-two picks of each row, side by side. -/
def picks (k : Keys) : IVec S128x32 32 :=
  concatenate S128x32 1 (List.ofFn fun n : Fin 32 => (⟨S128x1, pick (after k n.val)⟩ : (s : Shape) × (s.Idx → BitVec 32)))
    (by simpa [List.map_ofFn, Function.comp_def] using concatenates_picks)

/-- What the body stores, over the inner products `d` and the sums of squares `s`. -/
def stored (b : BitVec 32) (d s : Keys) : IVec S1x128x32 32 :=
  k0_pay2 b (k0_pay7 d s) (k0_pay8 d s) (picks (k0_pay9 d s))

/-- The block the body leaves in the output's window is `stored` of its inner products and sums of squares. -/
theorem out_eq (i : grid0.Coords) (x0 : Vec Ideal S1x128x3 .f32) (x1 : Vec Ideal S1x3x8192 .f32)
    (x2 : Vec Ideal S1x128x3 .bf16) (x3 : Vec Ideal S1x3x8192 .bf16) :
    out0_4 i x0 x1 x2 x3 = View.canon [⟨r0_2, stored (BitVec.ofNat 32 (i 0).val)
      (k0_pay3 (View.ld x2 r0_0) (View.ld x3 r0_1)) (k0_pay4 (View.ld x0 r0_0) (View.ld x1 r0_1))⟩] := rfl

/-! ### Read at a row -/

open Cert.Proof.Selection Cert.Proof.Row

/-- Row `q` of a block of keys. -/
abbrev row (k : Keys) (q : Fin 128) : Fin 8192 → EReal := fun j => k (ix2 q j)

/-- A pick is the first column of its row's least key, and the next keys hold infinity there and are the same
    elsewhere. -/
theorem pick_row (k : Keys) (q : Fin 128) : ∃ p : Fin 8192, IsFirst (row k q) p ∧
    pick k (ix2 q 0) = BitVec.ofNat 32 p.val ∧ row (next k) q = fun j => if j = p then ⊤ else row k q j := by
  obtain ⟨p, hp, he⟩ := least_column (row k q)
  have hpick : pick k (ix2 q 0) = BitVec.ofNat 32 p.val := by
    rw [← he]
    pointwise [pick, candidates, isLeast, columns, ofBits_top]
  refine ⟨p, hp, hpick, funext fun j => ?_⟩
  have hj : (BitVec.ofNat 32 j.val = BitVec.ofNat 32 p.val) ↔ j = p := by
    constructor
    · intro e
      have e := congrArg BitVec.toNat e
      simp only [BitVec.toNat_ofNat] at e
      exact Fin.ext (by omega)
    · rintro rfl; rfl
  pointwise [row, next, picked, columns, hpick, ofBits_top]
  rw [select_eq]
  simp only [hj]

/-- The distances a block of inner products `d` and sums of squares `s` gives. -/
def rowDist (d s : Keys) (q : Fin 128) : Fin 8192 → EReal := fun j =>
  Ideal.sqrt (max (s (ix2 q j) - Ideal.ofBits .f32 0x40000000#32 * d (ix2 q j)) 0)

theorem hits_row (d s : Keys) (q : Fin 128) : k0_pay7 d s (ix2 q 0) = BitVec.ofNat 32 (hits (rowDist d s q)) := by
  rw [← hits_word]
  pointwise [k0_pay7, k0_pay6, k0_pay5, rowDist, radius]

theorem last_row (d s : Keys) (q : Fin 128) : k0_pay8 d s (ix2 q 0) = lastHit (rowDist d s q) := by
  pointwise [k0_pay8, k0_pay6, k0_pay5, rowDist, radius, lastHit]

theorem key_row (d s : Keys) (q : Fin 128) : row (k0_pay9 d s) q = key (rowDist d s q) := by
  funext j
  pointwise [row, k0_pay9, hits_row, key]
  pointwise [k0_pay6, k0_pay5, rowDist, radius, ofBits_top]
  have hl := hits_le (rowDist d s q)
  rw [select_slt, toInt_small (hits _) (by omega)]
  have e : FloatOps.sitofp (F := Ideal) FTy.f32 (BitVec.ofNat 32 j.val) = (((j.val : ℤ) : ℝ) : EReal) := by
    rw [← toInt_small j.val (by omega)]; rfl
  rw [e]
  refine if_congr Iff.rfl (if_congr ?_ rfl rfl) rfl
  show ((hits _ : ℕ) : ℤ) < 32 ↔ _
  omega

/-- What the body stores for query `q` of its block: the row's choice, moved to the batch's rows of the table. -/
theorem stored_row (b : BitVec 32) (d s : Keys) (q : Fin 128) (k : Fin 32) :
    stored b d s (ix3 0 q k) = chosen (rowDist d s q) k + b * 8192#32 := by
  choose p hp hw hn using fun r => pick_row (after (k0_pay9 d s) r) q
  rw [← chosen_of_rounds (rowDist d s q) (fun r => row (after (k0_pay9 d s) r) q) p (key_row d s q) hp hn k, ← hw]
  pointwise [stored, k0_pay2, hits_row, last_row, picks]
  have hl := hits_le (rowDist d s q)
  rw [select_sge, toInt_small (hits _) (by omega), toInt_small k.val (by omega)]
  show (if _ then _ else _) + b * 8192#32 = _
  simp only [Nat.cast_le]

end Cert.Proof.Rounds

end
-- ==== Proof.Distance.lean ====
/-
  The distance of a query from a point, as both programs compute it.
-/
module

public import Idealize.ShloMosaic.Lib.Pointwise

@[expose] public section

noncomputable section

namespace Cert.Proof

open Idealize.ShloMosaic

/-- The points: 4 batches of 8192 points of 3 coordinates. -/
abbrev Points := FVec Ideal (⟨3, ![4, 8192, 3]⟩ : Shape) .f32

/-- The queries: 4 batches of 2048 queries of 3 coordinates. -/
abbrev Queries := FVec Ideal (⟨3, ![4, 2048, 3]⟩ : Shape) .f32

/-- The features: 4 batches of 128 features of 8192 points. -/
abbrev Features := FVec Ideal (⟨3, ![4, 128, 8192]⟩ : Shape) .f32

/-- Entry `e` of the group that query `q` of batch `b` makes with point `i`: the three differences of coordinates,
    then the point's features. -/
def entry (X : Points) (Y : Queries) (Z : Features) (b : Fin 4) (e : Fin 131) (q : Fin 2048) (i : Fin 8192) : EReal :=
  if h : e.val < 3 then X (ix3 b i ⟨e.val, h⟩) - Y (ix3 b q ⟨e.val, h⟩) else Z (ix3 b ⟨e.val - 3, by omega⟩ i)

/-- The distances of query `q` of batch `b` from that batch's points: the square root of the sum of squares of both
    less twice their inner product, taken as zero where that is negative. -/
def dist (X : Points) (Y : Queries) (b : Fin 4) (q : Fin 2048) : Fin 8192 → EReal := fun j =>
  Ideal.sqrt (max (((∑ c : Fin 3, Y (ix3 b q c) * Y (ix3 b q c)) + ∑ c : Fin 3, X (ix3 b j c) * X (ix3 b j c))
    - Ideal.ofBits .f32 0x40000000#32 * ∑ c : Fin 3, Y (ix3 b q c) * X (ix3 b j c)) 0)

end Cert.Proof

end
-- ==== Proof.IndexArray.lean ====
/-
  What the pipelined call leaves in its result: the chosen points' rows in the table of all batches' points.
-/
module

public import proofs.«01_k».proof.Proof.Rounds
public import proofs.«01_k».proof.Proof.Distance

@[expose] public section

set_option maxRecDepth 16384

noncomputable section

namespace Cert.Proof.IndexArray

open Idealize.ShloMosaic Idealize.ShloMosaic.TcCoe Idealize.SL.Sem Cert.KernelIdeal Cert.KernelIdeal.Gen
open Idealize.ShloMosaic.Pipeline (Dat)
open Cert.Proof.Row Cert.Proof.Rounds

variable (m : (ℓ : Loc nD τ sig) → Buf (Elt Ideal) ℓ)

/-- The row of the table each choice is. -/
def rows (X : Points) (Y : Queries) : IVec S4x2048x32 32 := fun y =>
  chosen (dist X Y (y 0) (y 1)) (y 2) + BitVec.ofNat 32 (y 0).val * 8192#32

theorem index_val : ∀ t : Fin cfg0.N,
    win0_0.index t = ![(grid0.coords t 0).val, (grid0.coords t 1).val, 0]
    ∧ win0_1.index t = ![(grid0.coords t 0).val, 0, 0]
    ∧ win0_2.index t = ![(grid0.coords t 0).val, (grid0.coords t 1).val, 0]
    ∧ win0_3.index t = ![(grid0.coords t 0).val, 0, 0]
    ∧ win0_4.index t = ![(grid0.coords t 0).val, (grid0.coords t 1).val, 0] :=
  (by decide +kernel : ∀ t : Fin grid0.N, _)

/-- The call's second operand is the points, coordinates first. -/
theorem points_transposed (c : Dev nD) : V m c main_v0
    = transpose S4x3x8192 [0, 2, 1] (m ((c : Thread nD τ).loc main_arg0) : Points) transposes_S4x8192x3_S4x3x8192_0_2_1 := by
  show StableHlo.after [hostOps0].flatten (fun b => m (c, b)) (Proc.devRef .tc main_v0) = _
  simp only [hostOps0, List.flatten_cons, List.flatten_nil, List.append_nil]
  after_results
  try rfl

/-- So is its fourth, in the narrower format. -/
theorem points_transposed_narrowed (c : Dev nD) : V m c main_v2
    = (truncf .bf16 (transpose S4x3x8192 [0, 2, 1] (m ((c : Thread nD τ).loc main_arg0) : Points)
        transposes_S4x8192x3_S4x3x8192_0_2_1) bitsLt_bf16_f32 : FVec Ideal S4x3x8192 .bf16) := by
  show StableHlo.after [hostOps0].flatten (fun b => m (c, b)) (Proc.devRef .tc main_v2) = _
  simp only [hostOps0, List.flatten_cons, List.flatten_nil, List.append_nil]
  after_results
  try rfl

/-- Over blocks that hold a query block's and a batch's coordinates, the body's distances are the distances of those
    queries from that batch's points. -/
theorem rowDist_eq (X : Points) (Y : Queries) (b : Fin 4) (r : Fin 2048) (q : Fin 128)
    (x0 : Vec Ideal S1x128x3 .f32) (x1 : Vec Ideal S1x3x8192 .f32) (x2 : Vec Ideal S1x128x3 .bf16)
    (x3 : Vec Ideal S1x3x8192 .bf16) (h0 : ∀ c : Fin 3, x0 (ix3 0 q c) = Y (ix3 b r c))
    (h1 : ∀ (c : Fin 3) (j : Fin 8192), x1 (ix3 0 c j) = X (ix3 b j c))
    (h2 : ∀ c : Fin 3, x2 (ix3 0 q c) = Y (ix3 b r c))
    (h3 : ∀ (c : Fin 3) (j : Fin 8192), x3 (ix3 0 c j) = X (ix3 b j c)) :
    rowDist (k0_pay3 x2 x3) (k0_pay4 x0 x1) q = dist X Y b r := by
  funext j
  pointwise [rowDist, k0_pay3, k0_pay4, dist]
  simp only [h0, h1, h2, h3, Fin.sum_univ_three]

theorem final (c : Dev nD) : (dats m 0 c).arrAt 4 (cfgs 0).N
    = rows (m ((c : Thread nD τ).loc main_arg0)) (m ((c : Thread nD τ).loc main_arg1)) := by
  refine (dats m 0 c).arrAt_eq_of_covers 4 _ (by decide +kernel) fun t _ y => ?_
  blk_simp
  rw [after0_4, out_eq]
  frame_out
  obtain ⟨y0, q, k, rfl⟩ : ∃ (y0 : Fin 1) (q : Fin 128) (k : Fin 32), y = (ix3 y0 q k : S1x128x32.Idx) :=
    ⟨y 0, y 1, y 2, eq_ix3 y⟩
  obtain rfl : y0 = 0 := Subsingleton.elim _ _
  refine (stored_row _ _ _ q k).trans ?_
  have hg := (grid0.coords t 1).isLt
  have hr : (grid0.coords t 1).val * 128 + q.val < 2048 := by
    have : (grid0.coords t 1).val < 16 := hg
    omega
  rw [rowDist_eq (m ((c : Thread nD τ).loc main_arg0)) (m ((c : Thread nD τ).loc main_arg1)) (grid0.coords t 0)
    ⟨(grid0.coords t 1).val * 128 + q.val, hr⟩ q]
  · have e : (((cfg0.win 4).blk t).view.emb (ix3 0 q k : S1x128x32.Idx)) = (ix3 (grid0.coords t 0) ⟨(grid0.coords t 1).val * 128 + q.val, hr⟩ k : S4x2048x32.Idx) := by
      blk_ext [index_val t]
    refine Eq.trans ?_ (congrArg _ e.symm)
    rfl
  · intro a
    blk_ext [iblk, V, index_val t]
  · intro a j
    blk_simp [iblk]
    refine (congrFun (points_transposed m c) _).trans ?_
    pointwise
    blk_ext [index_val t]
  · intro a
    blk_point [iblk, V, index_val t]
  · intro a j
    blk_simp [iblk]
    refine (congrFun (points_transposed_narrowed m c) _).trans ?_
    pointwise
    blk_ext [index_val t]

end Cert.Proof.IndexArray

end
-- ==== Proof.Tail.lean ====
/-
  The operations after the pipelined call: the table of points and features, its chosen rows, and the shift by the
  query, over whatever the call left.
-/
module

public import proofs.«01_k».proof.Proof.IndexArray

@[expose] public section

set_option maxRecDepth 16384

noncomputable section

namespace Cert.Proof.Tail

open Idealize.ShloMosaic Idealize.ShloMosaic.TcCoe Idealize.SL.Sem Cert.KernelIdeal Cert.KernelIdeal.Gen

/-- All batches' points, one row each: its coordinates and its features. -/
def table (X : Points) (Z : Features) : FVec Ideal S32768x131 .f32 :=
  shapeCast S32768x131 (concatenate S4x8192x131 2 [⟨S4x8192x3, X⟩, ⟨S4x8192x128,
    transpose S4x8192x128 [0, 2, 1] Z transposes_S4x128x8192_S4x8192x128_0_2_1⟩]
    concatenates_S4x8192x3_S4x8192x128_S4x8192x131_d2) shapeCasts_S4x8192x131_S32768x131

/-- Row numbers with the negative ones counted from the table's end. -/
def wrapped (I : IVec S4x2048x32 32) : IVec S4x2048x32 32 :=
  select (cmpi .slt I (broadcastInDim S4x2048x32 ![] bcast_S_S4x2048x32 (constantI S_ 32 0#32)))
    (addi I (broadcastInDim S4x2048x32 ![] bcast_S_S4x2048x32 (constantI S_ 32 32768#32))) I

/-- The rows `I` of the table. -/
def gathered (X : Points) (Z : Features) (I : IVec S4x2048x32 32) : FVec Ideal S4x2048x32x131 .f32 :=
  Host.gather gather_S32768x131_S4x2048x32x1_S4x2048x32x131_3_0_n_n_0_3_1131 (table X Z)
    (broadcastInDim S4x2048x32x1 ![0, 1, 2] bcast_S4x2048x32_S4x2048x32x1_0_1_2 (wrapped I))

/-- What is subtracted: the query's coordinates, and zero from the features. -/
def shift (Y : Queries) : FVec Ideal S4x131x2048x32 .f32 :=
  broadcastInDim S4x131x2048x32 ![0, 1, 2, 3] bcast_S4x131x2048x1_S4x131x2048x32_0_1_2_3
    (concatenate S4x131x2048x1 1 [⟨S4x3x2048x1, broadcastInDim S4x3x2048x1 ![0, 1, 2] bcast_S4x3x2048_S4x3x2048x1_0_1_2
        (transpose S4x3x2048 [0, 2, 1] Y transposes_S4x2048x3_S4x3x2048_0_2_1)⟩,
      ⟨S4x128x2048x1, broadcastInDim S4x128x2048x1 ![] bcast_S_S4x128x2048x1 (constant S_ .f32 0x00000000#32)⟩]
      concatenates_S4x3x2048x1_S4x128x2048x1_S4x131x2048x1_d1)

/-- The result, from the arguments and the rows `I` chosen. -/
def result (X : Points) (Y : Queries) (Z : Features) (I : IVec S4x2048x32 32) : FVec Ideal S4x131x2048x32 .f32 :=
  subf (transpose S4x131x2048x32 [0, 3, 1, 2] (gathered X Z I) transposes_S4x2048x32x131_S4x131x2048x32_0_3_1_2) (shift Y)

/-- From any contents, the operations after the call leave `result` of the arguments and of the call's array. -/
theorem after_tail (W : Valuation τ sig (Elt Ideal)) : StableHlo.after [hostOps1].flatten W (Proc.devRef .tc main_v20)
    = result (W (Proc.devRef .tc main_arg0)) (W (Proc.devRef .tc main_arg1)) (W (Proc.devRef .tc main_arg2))
        (W (Proc.devRef .tc main_v3)) := by
  simp only [hostOps1, List.flatten_cons, List.flatten_nil, List.append_nil]
  after_results
  rfl

variable (m : (ℓ : Loc nD τ sig) → Buf (Elt Ideal) ℓ)

/-- The kernel's result after its run. -/
theorem value (c : Dev nD) : Pipeline.afterTail₀ cfgs (dats m) 0 (V0 m) [hostOps1] c main_v20
    = result (m ((c : Thread nD τ).loc main_arg0)) (m ((c : Thread nD τ).loc main_arg1))
        (m ((c : Thread nD τ).loc main_arg2))
        (IndexArray.rows (m ((c : Thread nD τ).loc main_arg0)) (m ((c : Thread nD τ).loc main_arg1))) := by
  unfold Pipeline.afterTail₀
  rw [after_tail]
  refine congr (congr (congr (congrArg result ?_) ?_) ?_) ?_
  · exact (Pipeline.withArrays_of_ne _ c (V0 m c) _ main_arg0 (by exact (by decide : ∀ w, Pipeline.arrRef spec0 w ≠ main_arg0))).trans (V_main_arg0 m c)
  · exact (Pipeline.withArrays_arr spec0 launch0.win.arr_inj c (V0 m c) _ 0).trans
      (((dats m 0 c).arrAt_in 0 rfl _).trans ((A_eq m c 0).trans (V_main_arg1 m c)))
  · exact (Pipeline.withArrays_of_ne _ c (V0 m c) _ main_arg2 (by exact (by decide : ∀ w, Pipeline.arrRef spec0 w ≠ main_arg2))).trans (V_main_arg2 m c)
  · exact (Pipeline.withArrays_arr spec0 launch0.win.arr_inj c (V0 m c) _ 4).trans (IndexArray.final m c)

end Cert.Proof.Tail

end
-- ==== Proof.KernelValue.lean ====
/-
  The kernel's result, element by element.
-/
module

public import proofs.«01_k».proof.Proof.Tail

@[expose] public section

set_option maxRecDepth 16384

noncomputable section

namespace Cert.Proof.KernelValue

open Idealize.ShloMosaic Cert.KernelIdeal Cert.KernelIdeal.Gen Cert.Proof.Tail Cert.Proof.Row

/-- A gathered row of the table: the start index names it. -/
theorem gather_at (T : FVec Ideal S32768x131 .f32) (S : IVec S4x2048x32x1 32) (b : Fin 4) (q : Fin 2048) (k : Fin 32)
    (e : Fin 131) (r : Fin 32768) (h : (S (ix4 b q k 0)).toInt.toNat = r.val) :
    Host.gather gather_S32768x131_S4x2048x32x1_S4x2048x32x131_3_0_n_n_0_3_1131 T S (ix4 b q k e) = T (ix2 r e) := by
  have hi : ∀ z, (gather_S32768x131_S4x2048x32x1_S4x2048x32x131_3_0_n_n_0_3_1131).siIdx (ix4 b q k e) z = ix4 b q k 0 := by
    intro z
    funext a
    match a with
    | 0 => rfl
    | 1 => rfl
    | 2 => rfl
    | 3 => exact Subsingleton.elim (α := Fin 1) _ _
  unfold Host.gather
  congr 1
  funext a
  match a with
  | 0 =>
    refine Fin.ext ?_
    show min (S (GatherDims.siIdx _ _ _)).toInt.toNat 32767 + 0 + 0 = r.val
    rw [hi, h]
    omega
  | 1 =>
    refine Fin.ext ?_
    show 0 + 0 + e.val = e.val
    omega

/-- The table's row of point `i` of batch `b`: the point's coordinates, then its features. -/
theorem table_at (X : Points) (Z : Features) (b : Fin 4) (i : Fin 8192) (e : Fin 131) (r : Fin 32768)
    (h : r.val = b.val * 8192 + i.val) : table X Z (ix2 r e)
      = if h : e.val < 3 then X (ix3 b i ⟨e.val, h⟩) else Z (ix3 b ⟨e.val - 3, by omega⟩ i) := by
  unfold table
  have hc : ∀ (A : FVec Ideal S4x8192x131 .f32), shapeCast S32768x131 A shapeCasts_S4x8192x131_S32768x131 (ix2 r e) = A (ix3 b i e) := by
    intro A
    pointwise
    congr 1
    funext a
    match a with
    | 0 => exact Fin.ext (by show r.val / 8192 = b.val; omega)
    | 1 => exact Fin.ext (by show r.val % 8192 = i.val; omega)
    | 2 => rfl
  rw [hc]
  pointwise

theorem shift_at (Y : Queries) (b : Fin 4) (e : Fin 131) (q : Fin 2048) (k : Fin 32) : shift Y (ix4 b e q k)
    = if h : e.val < 3 then Y (ix3 b q ⟨e.val, h⟩) else 0 := by
  unfold shift
  pointwise

/-- An element of the result: the entry of the point that the row number names. -/
theorem result_at (X : Points) (Y : Queries) (Z : Features) (I : IVec S4x2048x32 32) (b : Fin 4) (e : Fin 131)
    (q : Fin 2048) (k : Fin 32) (i : Fin 8192)
    (h : I (ix3 b q k) = BitVec.ofNat 32 i.val + BitVec.ofNat 32 b.val * 8192#32) :
    result X Y Z I (ix4 b e q k) = entry X Y Z b e q i := by
  have hI : (I (ix3 b q k)).toInt = ((b.val * 8192 + i.val : ℕ) : ℤ) := by
    rw [h, ← toInt_small (b.val * 8192 + i.val) (by omega)]
    congr 1
    apply BitVec.eq_of_toNat_eq
    simp only [BitVec.toNat_add, BitVec.toNat_mul, BitVec.toNat_ofNat]
    omega
  have hw : wrapped I (ix3 b q k) = I (ix3 b q k) := by
    have : wrapped I (ix3 b q k) = Scalar.select (IntOp.cmpi .slt (I (ix3 b q k)) 0#32)
        (IntOp.addi (I (ix3 b q k)) 32768#32) (I (ix3 b q k)) := by
      pointwise [wrapped]
    rw [this, select_slt, if_neg]
    rw [hI]
    show ¬ _ < (0 : ℤ)
    omega
  have hg : gathered X Z I (ix4 b q k e) = table X Z (ix2 ⟨b.val * 8192 + i.val, by omega⟩ e) := by
    unfold gathered
    refine gather_at _ _ b q k e _ ?_
    have : broadcastInDim S4x2048x32x1 ![0, 1, 2] bcast_S4x2048x32_S4x2048x32x1_0_1_2 (wrapped I) (ix4 b q k 0)
        = wrapped I (ix3 b q k) := by
      pointwise
    rw [this, hw, hI]
    rfl
  have hr : result X Y Z I (ix4 b e q k) = gathered X Z I (ix4 b q k e) - shift Y (ix4 b e q k) := by
    unfold result
    pointwise
  rw [hr, hg, table_at X Z b i e _ rfl, shift_at]
  unfold entry
  split_ifs
  · rfl
  · exact sub_zero _

end Cert.Proof.KernelValue

end
-- ==== Proof.ReferenceIndex.lean ====
/-
  The points the reference chooses, read row by row.
-/
module

public import proofs.«01_k».proof.Proof.Gen.ReferenceIdeal.Run
public import proofs.«01_k».proof.Proof.Distance
public import proofs.«01_k».proof.Proof.Row

@[expose] public section

set_option maxRecDepth 16384

noncomputable section

namespace Cert.Proof.ReferenceIndex

open Idealize.ShloMosaic Cert.ReferenceIdeal Cert.ReferenceIdeal.Gen Cert.Proof.Row Cert.Proof.Selection

/-- One word per query and point. -/
abbrev Words := IVec S4x2048x8192 32

/-- One word per query and sample. -/
abbrev Samples := IVec S4x2048x32 32

/-- All distances. -/
def distances (X : Points) (Y : Queries) : FVec Ideal S4x2048x8192 .f32 :=
  Host.sqrt (maximumf (subf
    (addf
      (broadcastInDim S4x2048x8192 ![0, 1, 2] bcast_S4x2048x1_S4x2048x8192_0_1_2
        (broadcastInDim S4x2048x1 ![0, 1] bcast_S4x2048_S4x2048x1_0_1
          (Host.reduceAdd (mulf Y Y) (constant S_ .f32 0x00000000#32) reducesTo_S4x2048x3_S4x2048_d2 h_S_)))
      (broadcastInDim S4x2048x8192 ![0, 1, 2] bcast_S4x1x8192_S4x2048x8192_0_1_2
        (broadcastInDim S4x1x8192 ![0, 2] bcast_S4x8192_S4x1x8192_0_2
          (Host.reduceAdd (mulf X X) (constant S_ .f32 0x00000000#32) reducesTo_S4x8192x3_S4x8192_d2 h_S_))))
    (mulf (broadcastInDim S4x2048x8192 ![] bcast_S_S4x2048x8192 (constant S_ .f32 0x40000000#32))
      (Host.dotGeneral dot_S4x2048x3_S4x8192x3_S4x2048x8192_2_2_1_1_0_0 none Y X)))
    (broadcastInDim S4x2048x8192 ![] bcast_S_S4x2048x8192 (constant S_ .f32 0x00000000#32)))

/-- Which of them are within the radius. -/
def mask (D : FVec Ideal S4x2048x8192 .f32) : IVec S4x2048x8192 1 :=
  cmpf .ole D (broadcastInDim S4x2048x8192 ![] bcast_S_S4x2048x8192 (constant S_ .f32 0x3DCCCCCD#32))

/-- How many are, per query. -/
def counts (D : FVec Ideal S4x2048x8192 .f32) : IVec S4x2048 32 :=
  Host.reduce IntOp.addi (extui 32 (mask D) natLt_1_32) (constantI S_ 32 0#32) reducesTo_S4x2048x8192_S4x2048_d2 h_S_

/-- The distances, infinite outside the radius, negated. -/
def negated (D : FVec Ideal S4x2048x8192 .f32) : FVec Ideal S4x2048x8192 .f32 :=
  Host.negf (select (mask D) D (broadcastInDim S4x2048x8192 ![] bcast_S_S4x2048x8192 (constant S_ .f32 0x7F800000#32)))

/-- The points in the order of their distances. -/
def nearest (D : FVec Ideal S4x2048x8192 .f32) : Samples :=
  (Host.topK S4x2048x32 2 (FloatOps.cmpfTotal (F := Ideal) .gt) (negated D) sliceFits_S4x2048x8192_S4x2048x32).2

/-- The points' numbers where they are within the radius, else `z`. -/
def numbers (D : FVec Ideal S4x2048x8192 .f32) (z : BitVec 32) : Words :=
  select (mask D) (broadcastInDim S4x2048x8192 ![2] bcast_S8192_S4x2048x8192_2 (iotaInDim S8192 32 0))
    (broadcastInDim S4x2048x8192 ![] bcast_S_S4x2048x8192 (constantI S_ 32 z))

/-- The points within the radius in the order of their numbers, then 8192. -/
def ascending (D : FVec Ideal S4x2048x8192 .f32) : Samples :=
  negi (Host.topK S4x2048x32 2 (IntOp.cmpi .sgt) (negi (numbers D 8192#32)) sliceFits_S4x2048x8192_S4x2048x32).1

/-- The last point within the radius. -/
def last (D : FVec Ideal S4x2048x8192 .f32) : IVec S4x2048 32 :=
  maxsi (Host.reduce IntOp.maxsi (numbers D 4294967295#32) (constantI S_ 32 2147483648#32)
      reducesTo_S4x2048x8192_S4x2048_d2 h_S_)
    (broadcastInDim S4x2048 ![] bcast_S_S4x2048 (constantI S_ 32 0#32))

/-- The choice when fewer than 32 points are within the radius. -/
def few (D : FVec Ideal S4x2048x8192 .f32) : Samples :=
  select (cmpi .sge (ascending D) (broadcastInDim S4x2048x32 ![] bcast_S_S4x2048x32 (constantI S_ 32 8192#32)))
    (broadcastInDim S4x2048x32 ![0, 1, 2] bcast_S4x2048x1_S4x2048x32_0_1_2
      (broadcastInDim S4x2048x1 ![0, 1] bcast_S4x2048_S4x2048x1_0_1 (last D)))
    (ascending D)

/-- A test of each query's count, for each of its samples. -/
def spread (B : IVec S4x2048 1) : IVec S4x2048x32 1 :=
  broadcastInDim S4x2048x32 ![0, 1, 2] bcast_S4x2048x1_S4x2048x32_0_1_2
    (broadcastInDim S4x2048x1 ![0, 1] bcast_S4x2048_S4x2048x1_0_1 B)

/-- The points chosen. -/
def index (D : FVec Ideal S4x2048x8192 .f32) : Samples :=
  select (spread (cmpi .eq (counts D) (broadcastInDim S4x2048 ![] bcast_S_S4x2048 (constantI S_ 32 0#32))))
    (broadcastInDim S4x2048x32 ![] bcast_S_S4x2048x32 (constantI S_ 32 0#32))
    (select (spread (cmpi .sge (counts D) (broadcastInDim S4x2048 ![] bcast_S_S4x2048 (constantI S_ 32 32#32))))
      (nearest D) (few D))

/-- The chosen numbers, a negative one counted from the end, as an array of start indices. -/
def starts (I : Samples) : IVec S4x2048x32x1 32 :=
  broadcastInDim S4x2048x32x1 ![0, 1, 2] bcast_S4x2048x32_S4x2048x32x1_0_1_2
    (select (cmpi .slt I (broadcastInDim S4x2048x32 ![] bcast_S_S4x2048x32 (constantI S_ 32 0#32)))
      (addi I (broadcastInDim S4x2048x32 ![] bcast_S_S4x2048x32 (constantI S_ 32 8192#32))) I)

/-- The result from the arguments and the points chosen. -/
def result (X : Points) (Y : Queries) (Z : Features) (I : Samples) : FVec Ideal S4x131x2048x32 .f32 :=
  concatenate S4x131x2048x32 1
    [⟨S4x3x2048x32, subf
      (transpose S4x3x2048x32 [0, 3, 1, 2]
        (Host.gather gather_S4x8192x3_S4x2048x32x1_S4x2048x32x3_3_1_0_0_1_3_113 X (starts I))
        transposes_S4x2048x32x3_S4x3x2048x32_0_3_1_2)
      (broadcastInDim S4x3x2048x32 ![0, 1, 2, 3] bcast_S4x3x2048x1_S4x3x2048x32_0_1_2_3
        (broadcastInDim S4x3x2048x1 ![0, 1, 2] bcast_S4x3x2048_S4x3x2048x1_0_1_2
          (transpose S4x3x2048 [0, 2, 1] Y transposes_S4x2048x3_S4x3x2048_0_2_1)))⟩,
     ⟨S4x128x2048x32, Host.gather gather_S4x128x8192_S4x2048x32x1_S4x128x2048x32_1_2_0_0_2_3_11281 Z (starts I)⟩]
    concatenates_S4x3x2048x32_S4x128x2048x32_S4x131x2048x32_d1

open Idealize.ShloMosaic.TcCoe Idealize.SL.Sem in
/-- The reference's result is the composition of these. -/
theorem res_eq (m : (ℓ : Loc nD τ sig) → Buf (Elt Ideal) ℓ) (c : Dev nD) : Value.res_out0 m c
    = result (m ((c : Thread nD τ).loc main_arg0)) (m ((c : Thread nD τ).loc main_arg1))
        (m ((c : Thread nD τ).loc main_arg2))
        (index (distances (m ((c : Thread nD τ).loc main_arg0)) (m ((c : Thread nD τ).loc main_arg1)))) := by
  unfold Value.res_out0 Value.res_main_v61
  rfl

/-! ### One row -/

variable (D : FVec Ideal S4x2048x8192 .f32) (b : Fin 4) (q : Fin 2048)

/-- A query's distances. -/
def row : Fin 8192 → EReal := fun j => D (ix3 b q j)

theorem distances_row (X : Points) (Y : Queries) : row (distances X Y) b q = dist X Y b q := by
  funext j
  unfold row
  pointwise [distances, dist]

theorem mask_at (j : Fin 8192) : mask D (ix3 b q j) = BitVec.ofBool (decide (row D b q j ≤ radius)) := by
  pointwise [mask, row, radius]

theorem numbers_at (z : BitVec 32) (j : Fin 8192) :
    numbers D z (ix3 b q j) = if row D b q j ≤ radius then BitVec.ofNat 32 j.val else z := by
  unfold numbers
  pointwise [mask_at]

theorem counts_at : counts D (ix2 b q) = BitVec.ofNat 32 (hits (row D b q)) := by
  rw [← hits_word]
  pointwise [counts, mask_at]

theorem last_at : last D (ix2 b q) = lastHit (row D b q) := by
  unfold lastHit
  pointwise [last, numbers_at]

theorem negated_at (j : Fin 8192) :
    negated D (ix3 b q j) = -(if row D b q j ≤ radius then row D b q j else ⊤) := by
  unfold negated
  pointwise [mask_at]
  rw [ofBits_top]
  by_cases h : row D b q j ≤ radius <;> simp [Scalar.select, h] <;> rfl

theorem spread_at (B : IVec S4x2048 1) (k : Fin 32) : spread B (ix3 b q k) = B (ix2 b q) := by
  pointwise [spread]

/-! ### The sorts -/

/-- The positions of the row in the order `gt` puts its elements. -/
def sorted {α : Type} (gt : α → α → BitVec 1) (x : S4x2048x8192.Idx → α) : Fin 8192 → Fin 8192 :=
  sortedFrom fun u v => gt (x (ix3 b q u)) (x (ix3 b q v)) == 1#1

theorem along_eq (j u : Fin 8192) : (ix3 b q j : S4x2048x8192.Idx).along 2 u = ix3 b q u := by
  funext a
  match a with
  | 0 => rfl
  | 1 => rfl
  | 2 => rfl

/-- The two sorted arrays at a position of the row. -/
theorem sort2_at {α : Type} (gt : α → α → BitVec 1) (x : S4x2048x8192.Idx → α) (y : Words) (j : Fin 8192) :
    (Host.sort2 S4x2048x8192 2 (fun l r => gt l.1 r.1) x y).1 (ix3 b q j) = x (ix3 b q (sorted b q gt x j)) ∧
    (Host.sort2 S4x2048x8192 2 (fun l r => gt l.1 r.1) x y).2 (ix3 b q j) = y (ix3 b q (sorted b q gt x j)) := by
  have h : sortedFrom (fun u v => gt (x ((ix3 b q j : S4x2048x8192.Idx).along 2 u))
      (x ((ix3 b q j : S4x2048x8192.Idx).along 2 v)) == 1#1) j = sorted b q gt x j :=
    congrArg (fun f : Fin 8192 → Fin 8192 → Bool => sortedFrom f j)
      (funext₂ fun u v => by rw [along_eq b q j u, along_eq b q j v])
  exact ⟨congrArg x ((along_eq b q j _).trans (congrArg (ix3 b q) h)),
    congrArg y ((along_eq b q j _).trans (congrArg (ix3 b q) h))⟩

/-- The first 32 positions of the sorted row: the elements and their numbers. -/
theorem topK_at {α : Type} (gt : α → α → BitVec 1) (x : S4x2048x8192.Idx → α) (k : Fin 32) :
    (Host.topK S4x2048x32 2 gt x sliceFits_S4x2048x8192_S4x2048x32).1 (ix3 b q k)
      = x (ix3 b q (sorted b q gt x (k.castLE (by decide)))) ∧
    (Host.topK S4x2048x32 2 gt x sliceFits_S4x2048x8192_S4x2048x32).2 (ix3 b q k)
      = BitVec.ofNat 32 (sorted b q gt x (k.castLE (by decide))).val := by
  have hk : (fun a => ⟨0 + (ix3 b q k a).val, Nat.lt_of_lt_of_le (Nat.add_lt_add_left (ix3 b q k a).isLt _)
      (sliceFits_S4x2048x8192_S4x2048x32.2 a)⟩ : S4x2048x8192.Idx) = ix3 b q (k.castLE (by decide)) := by
    funext a
    match a with
    | 0 => exact Fin.ext (Nat.zero_add _)
    | 1 => exact Fin.ext (Nat.zero_add _)
    | 2 => exact Fin.ext (Nat.zero_add _)
  exact ⟨(congrArg _ hk).trans (sort2_at b q gt x (iotaInDim S4x2048x8192 32 2) _).1,
    (congrArg _ hk).trans (sort2_at b q gt x (iotaInDim S4x2048x8192 32 2) _).2⟩

/-- Fewer than `2 ^ 31`: a word's sign is clear. -/
theorem small (j : Fin 8192) : (BitVec.ofNat 32 j.val).toInt = j.val := toInt_small _ (by omega)

/-- When at least 32 points are within the radius, the nearest points are those of the least keys. -/
theorem nearest_at (k : Fin 32) (h : 32 ≤ hits (row D b q)) : nearest D (ix3 b q k)
    = BitVec.ofNat 32 (order (key (row D b q)) (k.castLE (by decide))).val := by
  unfold nearest
  rw [(topK_at b q _ _ k).2]
  unfold sorted order
  rw [sortedFrom_congr _ (fun u v => decide (key (row D b q) u < key (row D b q) v)) fun u v _ => ?_]
  rw [negated_at, negated_at]
  have hkey : ∀ j, (if row D b q j ≤ radius then row D b q j else ⊤) = key (row D b q) j := by
    intro j
    unfold key
    rw [if_neg (by omega : ¬ hits (row D b q) < 32)]
  rw [hkey, hkey]
  show (BitVec.ofBool (decide (-key (row D b q) u > -key (row D b q) v)) == 1#1) = _
  have hlt : -key (row D b q) u > -key (row D b q) v ↔ key (row D b q) u < key (row D b q) v :=
    EReal.neg_lt_neg_iff
  by_cases h : key (row D b q) u < key (row D b q) v <;> simp [hlt, h]

theorem toInt_neg_small (n : ℕ) (h : n ≤ 8192) : (-BitVec.ofNat 32 n).toInt = -(n : ℤ) := by
  rw [BitVec.toInt_neg, toInt_small n (by omega), Int.bmod_def]
  omega

/-- When fewer are, the `k`-th in the order of numbers is the one of the `k`-th least key, and 8192 after the last. -/
theorem ascending_at (k : Fin 32) (h : hits (row D b q) < 32) : ascending D (ix3 b q k)
    = if k.val < hits (row D b q) then BitVec.ofNat 32 (order (key (row D b q)) (k.castLE (by decide))).val
      else 8192#32 := by
  have hneg : ∀ j, negi (numbers D 8192#32) (ix3 b q j)
      = -(if row D b q j ≤ radius then BitVec.ofNat 32 j.val else 8192#32) := by
    intro j
    pointwise [numbers_at]
  have hs : sorted b q (IntOp.cmpi .sgt) (negi (numbers D 8192#32)) = order (key (row D b q)) := by
    unfold sorted order
    rw [sortedFrom_congr _ (fun u v => decide (key (row D b q) u < key (row D b q) v)) fun u v _ => ?_]
    have hn : ∀ j, (negi (numbers D 8192#32) (ix3 b q j)).toInt
        = -(if row D b q j ≤ radius then (j.val : ℤ) else 8192) := by
      intro j
      rw [hneg]
      split_ifs
      · exact toInt_neg_small _ (by omega)
      · decide
    have hlt : (negi (numbers D 8192#32) (ix3 b q v)).toInt < (negi (numbers D 8192#32) (ix3 b q u)).toInt
        ↔ key (row D b q) u < key (row D b q) v := by
      rw [hn, hn]
      unfold key
      by_cases hu : row D b q u ≤ radius <;> by_cases hv : row D b q v ≤ radius
      · simp [hu, hv, h]
      · simp only [hu, hv, h, if_true, if_false, EReal.coe_lt_top, iff_true]
        omega
      · simp [hu, hv, h]
      · simp [hu, hv, h]
    simp only [IntOp.cmpi, BitVec.slt_eq_decide]
    by_cases hc : key (row D b q) u < key (row D b q) v <;> simp [hlt, hc]
  have hv : ascending D (ix3 b q k) = numbers D 8192#32 (ix3 b q (order (key (row D b q)) (k.castLE (by decide)))) := by
    show -((Host.topK S4x2048x32 2 (IntOp.cmpi .sgt) (negi (numbers D 8192#32)) sliceFits_S4x2048x8192_S4x2048x32).1
      (ix3 b q k)) = _
    rw [(topK_at b q _ _ k).1, hs]
    exact BitVec.neg_neg
  rw [hv, numbers_at]
  have hm := key_order_ne_top (key (row D b q)) (k.castLE (by decide))
  rw [key_ne_top, count_key] at hm
  simp only [hm]
  rfl

theorem few_at (k : Fin 32) (h : hits (row D b q) < 32) : few D (ix3 b q k) = chosen (row D b q) k := by
  have hf : few D (ix3 b q k) = Scalar.select (IntOp.cmpi .sge (ascending D (ix3 b q k)) 8192#32)
      (last D (ix2 b q)) (ascending D (ix3 b q k)) := by
    pointwise [few]
  rw [hf, select_sge, last_at, ascending_at D b q k h]
  unfold chosen
  by_cases hk : k.val < hits (row D b q)
  · rw [if_pos hk, if_neg (by rw [small]; have := (order (key (row D b q)) (k.castLE (by decide))).isLt; show ¬ (8192 : ℤ) ≤ _; omega),
      if_neg (by omega)]
  · rw [if_neg hk, if_pos (by decide), if_pos (by omega)]

/-- The reference's choice is `chosen`. -/
theorem index_at (k : Fin 32) : index D (ix3 b q k) = chosen (row D b q) k := by
  have hi : index D (ix3 b q k) = Scalar.select (IntOp.cmpi .eq (counts D (ix2 b q)) 0#32) 0#32
      (Scalar.select (IntOp.cmpi .sge (counts D (ix2 b q)) 32#32) (nearest D (ix3 b q k)) (few D (ix3 b q k))) := by
    pointwise [index, spread_at]
  have hle := hits_le (row D b q)
  rw [hi, select_eq, select_sge, counts_at, toInt_small (hits (row D b q)) (by omega)]
  have h0 : BitVec.ofNat 32 (hits (row D b q)) = 0#32 ↔ hits (row D b q) = 0 := by
    constructor
    · intro e
      have := congrArg BitVec.toNat e
      simp only [BitVec.toNat_ofNat] at this
      omega
    · intro e
      rw [e]
  have h32 : (32#32 : BitVec 32).toInt ≤ (hits (row D b q) : ℤ) ↔ 32 ≤ hits (row D b q) := by
    show (32 : ℤ) ≤ _ ↔ _
    omega
  simp only [h0, h32]
  by_cases h : 32 ≤ hits (row D b q)
  · rw [if_neg (by omega), if_pos h, nearest_at D b q k h, chosen, if_neg (by omega)]
  · rw [if_neg h, few_at D b q k (by omega)]
    split_ifs with hz
    · rw [chosen, if_pos (by omega), lastHit_none _ hz]
    · rfl

end Cert.Proof.ReferenceIndex

end
-- ==== Proof.ReferenceValue.lean ====
/-
  The reference's result, element by element.
-/
module

public import proofs.«01_k».proof.Proof.ReferenceIndex

@[expose] public section

set_option maxRecDepth 16384

noncomputable section

namespace Cert.Proof.ReferenceValue

open Idealize.ShloMosaic Cert.ReferenceIdeal Cert.ReferenceIdeal.Gen Cert.Proof.ReferenceIndex Cert.Proof.Row

/-- A gathered point: the start index names it. -/
theorem points_at (X : Points) (S : IVec S4x2048x32x1 32) (b : Fin 4) (q : Fin 2048) (k : Fin 32)
    (a : Fin 3) (i : Fin 8192) (h : (S (ix4 b q k 0)).toInt.toNat = i.val) :
    Host.gather gather_S4x8192x3_S4x2048x32x1_S4x2048x32x3_3_1_0_0_1_3_113 X S (ix4 b q k a) = X (ix3 b i a) := by
  have hi : ∀ z, (gather_S4x8192x3_S4x2048x32x1_S4x2048x32x3_3_1_0_0_1_3_113).siIdx (ix4 b q k a) z = ix4 b q k 0 := by
    intro z
    funext x
    match x with
    | 0 => rfl
    | 1 => rfl
    | 2 => rfl
    | 3 => exact Subsingleton.elim (α := Fin 1) _ _
  unfold Host.gather
  congr 1
  funext x
  match x with
  | 0 =>
    refine Fin.ext ?_
    show 0 + b.val + 0 = b.val
    omega
  | 1 =>
    refine Fin.ext ?_
    show min (S (GatherDims.siIdx _ _ _)).toInt.toNat 8191 + 0 + 0 = i.val
    rw [hi, h]
    omega
  | 2 =>
    refine Fin.ext ?_
    show 0 + 0 + a.val = a.val
    omega

/-- A gathered feature: the start index names its point. -/
theorem features_at (Z : Features) (S : IVec S4x2048x32x1 32) (b : Fin 4) (q : Fin 2048) (k : Fin 32)
    (f : Fin 128) (i : Fin 8192) (h : (S (ix4 b q k 0)).toInt.toNat = i.val) :
    Host.gather gather_S4x128x8192_S4x2048x32x1_S4x128x2048x32_1_2_0_0_2_3_11281 Z S (ix4 b f q k) = Z (ix3 b f i) := by
  have hi : ∀ z, (gather_S4x128x8192_S4x2048x32x1_S4x128x2048x32_1_2_0_0_2_3_11281).siIdx (ix4 b f q k) z = ix4 b q k 0 := by
    intro z
    funext x
    match x with
    | 0 => rfl
    | 1 => rfl
    | 2 => rfl
    | 3 => exact Subsingleton.elim (α := Fin 1) _ _
  unfold Host.gather
  congr 1
  funext x
  match x with
  | 0 =>
    refine Fin.ext ?_
    show 0 + b.val + 0 = b.val
    omega
  | 1 =>
    refine Fin.ext ?_
    show 0 + 0 + f.val = f.val
    omega
  | 2 =>
    refine Fin.ext ?_
    show min (S (GatherDims.siIdx _ _ _)).toInt.toNat 8191 + 0 + 0 = i.val
    rw [hi, h]
    omega

/-- An element of the result: the entry of the point chosen. -/
theorem result_at (X : Points) (Y : Queries) (Z : Features) (I : Samples) (b : Fin 4) (e : Fin 131)
    (q : Fin 2048) (k : Fin 32) (i : Fin 8192) (h : I (ix3 b q k) = BitVec.ofNat 32 i.val) :
    result X Y Z I (ix4 b e q k) = entry X Y Z b e q i := by
  have hs : (starts I (ix4 b q k 0)).toInt.toNat = i.val := by
    have : starts I (ix4 b q k 0) = Scalar.select (IntOp.cmpi .slt (I (ix3 b q k)) 0#32)
        (IntOp.addi (I (ix3 b q k)) 8192#32) (I (ix3 b q k)) := by
      pointwise [starts]
    rw [this, select_slt, if_neg]
    · rw [h, small]
      rfl
    · rw [h, small]
      show ¬ _ < (0 : ℤ)
      omega
  have hr : result X Y Z I (ix4 b e q k) = if he : e.val < 3
      then Host.gather gather_S4x8192x3_S4x2048x32x1_S4x2048x32x3_3_1_0_0_1_3_113 X (starts I) (ix4 b q k ⟨e.val, he⟩)
        - Y (ix3 b q ⟨e.val, he⟩)
      else Host.gather gather_S4x128x8192_S4x2048x32x1_S4x128x2048x32_1_2_0_0_2_3_11281 Z (starts I)
        (ix4 b ⟨e.val - 3, by omega⟩ q k) := by
    unfold result
    pointwise
  rw [hr]
  unfold entry
  split_ifs
  · rw [points_at X _ b q k _ i hs]
  · rw [features_at Z _ b q k _ i hs]

end Cert.Proof.ReferenceValue

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- On the same arguments the kernel and the reference compute the same array: both choose the same point for each
    sample, and both form its entries in the same way. -/
theorem same_result (X : Points) (Y : Queries) (Z : Features) :
    Tail.result X Y Z (IndexArray.rows X Y)
      = ReferenceIndex.result X Y Z (ReferenceIndex.index (ReferenceIndex.distances X Y)) := by
  funext y
  obtain ⟨b, e, q, k, rfl⟩ : ∃ b e q k, y = ix4 b e q k := ⟨y 0, y 1, y 2, y 3, eq_ix4 y⟩
  obtain ⟨i, hi⟩ : ∃ i : Fin 8192, Row.chosen (dist X Y b q) k = BitVec.ofNat 32 i.val :=
    ⟨⟨(Row.chosen (dist X Y b q) k).toNat, Row.chosen_lt (dist X Y b q) k⟩, by simp⟩
  have hk : IndexArray.rows X Y (ix3 b q k) = BitVec.ofNat 32 i.val + BitVec.ofNat 32 b.val * 8192#32 :=
    congrArg (· + BitVec.ofNat 32 b.val * 8192#32) hi
  have hr : ReferenceIndex.index (ReferenceIndex.distances X Y) (ix3 b q k) = BitVec.ofNat 32 i.val := by
    rw [ReferenceIndex.index_at, ReferenceIndex.distances_row, hi]
  exact (KernelValue.result_at X Y Z _ b e q k i hk).trans (ReferenceValue.result_at X Y Z _ b e q k i hr).symm

/-- The kernel and the reference, over the extended reals. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Tail.result (m ((c.tc : Thread _ Cert.KernelIdeal.τ).loc Cert.KernelIdeal.main_arg0))
      (m ((c.tc : Thread _ Cert.KernelIdeal.τ).loc Cert.KernelIdeal.main_arg1))
      (m ((c.tc : Thread _ Cert.KernelIdeal.τ).loc Cert.KernelIdeal.main_arg2))
      (IndexArray.rows (m ((c.tc : Thread _ Cert.KernelIdeal.τ).loc Cert.KernelIdeal.main_arg0))
        (m ((c.tc : Thread _ Cert.KernelIdeal.τ).loc Cert.KernelIdeal.main_arg1))),
    (θ_run _ _ _).mono (fun r h c => ⟨?_, h.2 c⟩)
      (θ_run_and (Cert.KernelIdeal.Gen.run_main m g) (Cert.KernelIdeal.Gen.unchanged m g)),
    (θ_run _ _ _).mono (fun r h c => ⟨(h c).1.trans ?_, (h c).2⟩) (Cert.ReferenceIdeal.Value.run m' g')⟩
  · exact ((h.1 c).2 Cert.KernelIdeal.main_v20 (Pipeline.mem_restRefs_of Cert.KernelIdeal.main_v20 (by decide) (by decide))).trans
      (Tail.value m c)
  · obtain ⟨h0, h1, h2⟩ := hagree c
    refine (ReferenceIndex.res_eq m' c).trans ?_
    rw [h0, h1, h2]
    exact (same_result _ _ _).symm

/-- The reference runs to its end with its arguments unchanged; it has no semaphore. -/
theorem reference_frame : Cert.quiescent_ReferenceIdeal (hReferenceIdeal := Cert.ReferenceIdeal.Gen.facts) :=
  fun m ρ _ => (θ_run _ _ _).mono (fun r h => ⟨fun c => (h c).2, sem_eq_zero_of_no_sems rfl r.2⟩)
    (Cert.ReferenceIdeal.Value.run m ρ)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
